-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Gcn.Body.lean ====
/- What one grid step of the kernel computes, as a function of the blocks it is handed: the first step stores the
   support `x · W` in the carried scratch and uses it; every later step uses what the scratch holds. -/
module

public import proofs.«01_k».proof.Proof.Gen.KernelIdeal.Value

@[expose] public section

noncomputable section

namespace Cert.Gcn

open Cert.KernelIdeal Cert.KernelIdeal.Gen Idealize.ShloMosaic Idealize.ShloMosaic.TcCoe Idealize.SL.Sem

variable {F : FTy → Type} [FloatOps F]

/-- The offsets of an access to a whole two-axis buffer are zero. -/
theorem origin : (![0, 0] : Fin 2 → Nat) = fun _ => 0 := funext fun a => by fin_cases a <;> rfl

/-- The first step leaves the product of its two small operands in the scratch. -/
theorem scratch_first (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S400x10000 .f32) (h4 : a4.IsWhole)
    (a5 : Memref sig .tc .vmem S400x128 .f32) (h5 : a5.IsWhole) (a6 : Memref sig .tc .vmem S10000x128 .f32) (h6 : a6.IsWhole)
    (hc : cond0_0 i) (x : Vec F S10000x128 .f32) (w : Vec F S128x128 .f32) (b : Vec F S1x128 .f32) (adj : Vec F S400x10000 .f32) :
    sout0_A_0 c i a1 h1 a2 h2 a3 h3 a4 h4 a5 h5 a6 h6 hc x w b adj = k0_pay1 x w := by
  unfold sout0_A_0
  rw [View.read_writes_eq_canon _ _ _ (scover0_A_0 c i a1 h1 a2 h2 a3 h3 a4 h4 a5 h5 a6 h6 hc x w b adj)]
  unfold kernelRun0_A
  dsimp only
  sl_unfold_words
  rw [View.canon_unit_zero origin]
  simp only [View.readAt_eq_ld, h1.read_unread, h2.read_unread, View.ld_unit_zero (S := S10000x128) origin,
    View.ld_unit_zero (S := S128x128) origin]

/-- The first step's output block: the adjacency rows against the product just stored, plus the bias, clipped below at 0. -/
theorem block_first (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S400x10000 .f32) (h4 : a4.IsWhole)
    (a5 : Memref sig .tc .vmem S400x128 .f32) (h5 : a5.IsWhole) (a6 : Memref sig .tc .vmem S10000x128 .f32) (h6 : a6.IsWhole)
    (hc : cond0_0 i) (x : Vec F S10000x128 .f32) (w : Vec F S128x128 .f32) (b : Vec F S1x128 .f32) (adj : Vec F S400x10000 .f32) :
    out0_A_4 c i a1 h1 a2 h2 a3 h3 a4 h4 a5 h5 a6 h6 hc x w b adj = k0_pay2 adj (k0_pay1 x w) b := by
  unfold out0_A_4
  rw [View.read_writes_eq_canon _ _ _ (cover0_A_4 c i a1 h1 a2 h2 a3 h3 a4 h4 a5 h5 a6 h6 hc x w b adj)]
  unfold kernelRun0_A
  dsimp only
  sl_unfold_words
  rw [View.canon_unit_zero origin, View.readCov_unit_zero (S := S10000x128) _ origin]
  simp only [View.readAt_eq_ld, h1.read_unread, h2.read_unread, h3.read_unread, h4.read_unread,
    View.ld_unit_zero (S := S10000x128) origin, View.ld_unit_zero (S := S128x128) origin,
    View.ld_unit_zero (S := S1x128) origin, View.ld_unit_zero (S := S400x10000) origin]

/-- A later step's output block: the same with what the scratch holds in the product's place. -/
theorem block_later (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S400x10000 .f32) (h4 : a4.IsWhole)
    (a5 : Memref sig .tc .vmem S400x128 .f32) (h5 : a5.IsWhole) (a6 : Memref sig .tc .vmem S10000x128 .f32) (h6 : a6.IsWhole)
    (hc : ¬cond0_0 i) (x : Vec F S10000x128 .f32) (w : Vec F S128x128 .f32) (b : Vec F S1x128 .f32) (adj : Vec F S400x10000 .f32)
    (s : Vec F S10000x128 .f32) :
    out0_B_4 c i a1 h1 a2 h2 a3 h3 a4 h4 a5 h5 a6 h6 hc x w b adj s = k0_pay2 adj s b := by
  unfold out0_B_4
  rw [View.read_writes_eq_canon _ _ _ (cover0_B_4 c i a1 h1 a2 h2 a3 h3 a4 h4 a5 h5 a6 h6 hc x w b adj s)]
  unfold kernelRun0_B
  dsimp only
  sl_unfold_words
  rw [View.canon_unit_zero origin]
  simp only [View.readAt_eq_ld, h3.read_unread, h4.read_unread, h6.read_unread, View.ld_unit_zero (S := S10000x128) origin,
    View.ld_unit_zero (S := S1x128) origin, View.ld_unit_zero (S := S400x10000) origin]

end Cert.Gcn

end
-- ==== Proof.Gcn.Windows.lean ====
/- What the kernel's input windows read of the arguments at each grid step: `x`, `W` and the bias row are read whole at
   every step, and step `t` reads rows `400 t … 400 t + 399` of the adjacency matrix. -/
module

public import proofs.«01_k».proof.Proof.Gen.KernelIdeal.Value
public import Idealize.ShloMosaic.Lib.ValueIdx
public import Idealize.ShloMosaic.Lib.StableHlo.Run

@[expose] public section

noncomputable section

namespace Cert.Gcn

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the four input windows at every step. -/
theorem index_x : ∀ (t : Fin cfg0.N) (a : Fin 2), win0_0.index t a = 0 :=
  (by decide +kernel : ∀ (t : Fin grid0.N) (a : Fin 2), win0_0.index t a = 0)
theorem index_w : ∀ (t : Fin cfg0.N) (a : Fin 2), win0_1.index t a = 0 :=
  (by decide +kernel : ∀ (t : Fin grid0.N) (a : Fin 2), win0_1.index t a = 0)
theorem index_b : ∀ (t : Fin cfg0.N) (a : Fin 2), win0_2.index t a = 0 :=
  (by decide +kernel : ∀ (t : Fin grid0.N) (a : Fin 2), win0_2.index t a = 0)
theorem index_adj : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Every step reads all of `x`. -/
theorem read_x (c : Dev nD) (t : Fin cfg0.N) :
    (iblk m c 0 t : Vec F S10000x128 .f32) = m ((c : Thread nD τ).loc main_arg0) := by
  rw [← V_main_arg0 m c]
  funext j
  unfold iblk
  rw [View.read_apply]
  show V m c main_arg0 _ = V m c main_arg0 j
  congr 1
  funext a
  apply Fin.ext
  match a with
  | ⟨0, _⟩ => show win0_0.index t (0 : Fin 2) * 10000 + 1 * (j 0).val = (j 0).val; rw [index_x]; omega
  | ⟨1, _⟩ => show win0_0.index t (1 : Fin 2) * 128 + 1 * (j 1).val = (j 1).val; rw [index_x]; omega

/-- Every step reads all of `W`. -/
theorem read_w (c : Dev nD) (t : Fin cfg0.N) :
    (iblk m c 1 t : Vec F S128x128 .f32) = m ((c : Thread nD τ).loc main_arg2) := by
  rw [← V_main_arg2 m c]
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [index_w]; omega
  | ⟨1, _⟩ => show win0_1.index t (1 : Fin 2) * 128 + 1 * (j 1).val = (j 1).val; rw [index_w]; omega

/-- The region finds the bias as one row. -/
theorem bias_row (c : Dev nD) :
    (V m c main_call0_v0 : Vec F S1x128 .f32) = shapeCast S1x128 (m ((c : Thread nD τ).loc main_arg3) : Vec F S128 .f32) shapeCasts_S128_S1x128 := by
  unfold V
  simp only [hostOps0, StableHlo.TRef.reshape, StableHlo.TRef.toBuf, StableHlo.TRef.ofBuf, cast_eq]
  after_results
  rfl

/-- Every step reads all of the bias row. -/
theorem read_b (c : Dev nD) (t : Fin cfg0.N) :
    (iblk m c 2 t : Vec F S1x128 .f32) = shapeCast S1x128 (m ((c : Thread nD τ).loc main_arg3) : Vec F S128 .f32) shapeCasts_S128_S1x128 := by
  rw [← bias_row m c]
  funext j
  unfold iblk
  rw [View.read_apply]
  show V m c main_call0_v0 _ = V m c main_call0_v0 j
  congr 1
  funext a
  apply Fin.ext
  match a with
  | ⟨0, _⟩ => show win0_2.index t (0 : Fin 2) * 1 + 1 * (j 0).val = (j 0).val; rw [index_b]; omega
  | ⟨1, _⟩ => show win0_2.index t (1 : Fin 2) * 128 + 1 * (j 1).val = (j 1).val; rw [index_b]; omega

/-- Step `t` reads, at (r, k), the adjacency matrix at (400 t + r, k). -/
theorem read_adj (c : Dev nD) (t : Fin cfg0.N) (r : Fin 400) (k : Fin 10000) (i : Fin 10000) (hi : i.val = 400 * t.val + r.val) :
    (iblk m c 3 t : Vec F S400x10000 .f32) (ix2 r k) = (m ((c : Thread nD τ).loc main_arg1) : Vec F S10000x10000 .f32) (ix2 i k) := by
  rw [← V_main_arg1 m c]
  unfold iblk
  rw [View.read_apply]
  show V m c main_arg1 _ = V m c main_arg1 (ix2 i k)
  congr 1
  funext a
  apply Fin.ext
  match a with
  | ⟨0, _⟩ => show win0_3.index t (0 : Fin 2) * 400 + 1 * r.val = i.val; rw [(index_adj t).1]; omega
  | ⟨1, _⟩ => show win0_3.index t (1 : Fin 2) * 10000 + 1 * k.val = k.val; rw [(index_adj t).2]; omega

end Cert.Gcn

end
-- ==== Proof.Gcn.Layer.lean ====
/- The graph convolution as a formula over the extended reals, and the two programs' pure terms read at an index: the
   kernel's per-block payloads and the reference's whole-array term are both that formula. -/
module

public import proofs.«01_k».proof.Proof.Gen.KernelIdeal.Skeleton
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Pipeline.Value

@[expose] public section

noncomputable section

namespace Cert.Gcn

open Idealize.ShloMosaic Idealize.ShloMosaic.ValueIdx
open scoped BigOperators

abbrev Sx : Shape := ⟨2, ![10000, 128]⟩
abbrev Sadj : Shape := ⟨2, ![10000, 10000]⟩
abbrev Sw : Shape := ⟨2, ![128, 128]⟩
abbrev Sb : Shape := ⟨1, ![128]⟩

/-- The support of the layer at (k, j): row `k` of `x` against column `j` of `W`. -/
def supportAt (x : FVec Ideal Sx .f32) (w : FVec Ideal Sw .f32) (k : Fin 10000) (j : Fin 128) : EReal :=
  ∑ l : Fin 128, x (ix2 k l) * w (ix2 l j)

/-- The layer at (i, j): row `i` of the adjacency matrix against column `j` of the support, plus the bias, or 0 if that is more. -/
def layerAt (x : FVec Ideal Sx .f32) (adj : FVec Ideal Sadj .f32) (w : FVec Ideal Sw .f32) (b : FVec Ideal Sb .f32)
    (i : Fin 10000) (j : Fin 128) : EReal :=
  max ((∑ k : Fin 10000, adj (ix2 i k) * supportAt x w k j) + b (ix1 j)) 0

/-- The bias laid out as one row, read at its column `j`. -/
theorem row_of_bias (b : FVec Ideal Sb .f32) (h : Sb.ShapeCasts ⟨2, ![1, 128]⟩) (j : Fin 128) :
    shapeCast ⟨2, ![1, 128]⟩ b h (ix2 (0 : Fin 1) j) = b (ix1 j) := by
  refine shapeCast_apply _ _ _ _ ?_
  rw [Shape.rowMajor_val_one, Shape.rowMajor_val_two]
  show j.val = 0 * 128 + j.val
  omega

section Kernel
open Cert.KernelIdeal Cert.KernelIdeal.Gen

/-- What the kernel's first step puts in the scratch is the support. -/
theorem pay1_at (x : FVec Ideal S10000x128 .f32) (w : FVec Ideal S128x128 .f32) (k : Fin 10000) (j : Fin 128) :
    k0_pay1 (F := Ideal) x w (ix2 k j) = supportAt x w k j := by
  unfold k0_pay1
  rw [shapeCast_self]
  refine (Ideal.matmul_plain_apply (M := 10000) (K := 128) (N := 128) none x w _ k j).trans ?_
  show Ideal.ofBits .f32 0x00000000#32 + _ = _
  rw [Ideal.ofBits_zero_f32, zero_add]
  rfl

/-- What a step stores in its output block at (r, j), from its adjacency rows, the scratch and the bias row. -/
theorem pay2_at (adj : FVec Ideal S400x10000 .f32) (s : FVec Ideal S10000x128 .f32) (b : FVec Ideal S1x128 .f32)
    (r : Fin 400) (j : Fin 128) :
    k0_pay2 (F := Ideal) adj s b (ix2 r j) = max ((∑ k : Fin 10000, adj (ix2 r k) * s (ix2 k j)) + b (ix2 (0 : Fin 1) j)) 0 := by
  unfold k0_pay2
  rw [shapeCast_self]
  rw [maximumf_apply, addf_apply]
  refine congrArg₂ max (congrArg₂ (· + ·) ?_ ?_) ?_
  · refine (Ideal.matmul_plain_apply (M := 400) (K := 10000) (N := 128) none adj s _ r j).trans ?_
    show Ideal.ofBits .f32 0x00000000#32 + _ = _
    rw [Ideal.ofBits_zero_f32, zero_add]
  · refine broadcastTo_apply _ _ _ _ fun a => ?_
    match a with
    | ⟨0, _⟩ => rfl
    | ⟨1, _⟩ => rfl
  · exact Ideal.ofBits_zero_f32

end Kernel

section Reference
open Cert.ReferenceIdeal Cert.ReferenceIdeal.Gen

/-- What the reference computes, read at (i, j), is the layer. -/
theorem reference_at (x : FVec Ideal S10000x128 .f32) (adj : FVec Ideal S10000x10000 .f32) (w : FVec Ideal S128x128 .f32)
    (b : FVec Ideal S128 .f32) (i : Fin 10000) (j : Fin 128) :
    maximumf (addf (Host.dotGeneral dot_S10000x10000_S10000x128_S10000x128_1_0_0_1_n_n none adj
          (Host.dotGeneral dot_S10000x128_S128x128_S10000x128_1_0_0_1_n_n none x w))
        (broadcastInDim S10000x128 ![0, 1] bcast_S1x128_S10000x128_0_1 (broadcastInDim S1x128 ![1] bcast_S128_S1x128_1 b)))
      (broadcastInDim S10000x128 ![] bcast_S_S10000x128 (constant (F := Ideal) S_ .f32 0x00000000#32)) (ix2 i j)
      = layerAt x adj w b i j := by
  rw [maximumf_apply, addf_apply]
  unfold layerAt
  refine congrArg₂ max (congrArg₂ (· + ·) ?_ ?_) ?_
  · refine (Idealize.ShloMosaic.StackMember.dotGeneral_plain_apply (m := 10000) (k := 10000) (n := 128) none adj _ i j).trans ?_
    refine Finset.sum_congr rfl fun k _ => congrArg (adj (ix2 i k) * ·) ?_
    exact Idealize.ShloMosaic.StackMember.dotGeneral_plain_apply (m := 10000) (k := 128) (n := 128) none x w k j
  · refine (broadcastInDim_apply _ _ _ _ (ix2 (0 : Fin 1) j) fun a => ?_).trans
      (broadcastInDim_apply _ _ _ _ (ix1 j) fun a => ?_)
    · match a with
      | ⟨0, _⟩ => rfl
      | ⟨1, _⟩ => rfl
    · match a with
      | ⟨0, _⟩ => rfl
  · exact Ideal.ofBits_zero_f32

end Reference

end Cert.Gcn

end
-- ==== Proof.Gcn.Result.lean ====
/- What the kernel's result array holds after the run: the scratch holds the support from the first step on, so every
   block is the layer's, and the blocks tile the array. -/
module

public import proofs.«01_k».proof.Proof.Gcn.Body
public import proofs.«01_k».proof.Proof.Gcn.Windows
public import proofs.«01_k».proof.Proof.Gcn.Layer

@[expose] public section

noncomputable section

namespace Cert.Gcn

open Cert.KernelIdeal Cert.KernelIdeal.Gen Idealize.ShloMosaic Idealize.ShloMosaic.TcCoe Idealize.SL.Sem
open Idealize.ShloMosaic.ValueIdx

section AnyFloats
variable {F : FTy → Type} [FloatOps F]
variable (m : (ℓ : Loc nD τ sig) → Buf (Elt F) ℓ)

/-- The product of `x` and `W`, as the first step computes it. -/
def support (c : Dev nD) : Vec F S10000x128 .f32 :=
  k0_pay1 (m ((c : Thread nD τ).loc main_arg0)) (m ((c : Thread nD τ).loc main_arg2))

/-- After every step the scratch holds the support: the first step stores it and no later step stores there. -/
theorem scratch_holds (c : Dev nD) : ∀ (n : ℕ) (hn : n < cfg0.N), (outsAt0 m c n hn).2 = support m c
  | 0, hn => by
    rw [outsAt0_A m c ⟨0, hn⟩ (Nat.zero_mod _)]
    dsimp only
    rw [scratch_first, read_x, read_w]
    rfl
  | n + 1, hn => by
    have hN : n + 1 < 25 := lt_of_lt_of_eq hn N_0
    have hB : ¬(⟨n + 1, hn⟩ : Fin cfg0.N).val % 25 = 0 := by dsimp only; omega
    rw [outsAt0_B m c ⟨n + 1, hn⟩ hB]
    exact scratch_holds c n _

/-- After step `t` the output block holds the step's payload at the step's adjacency rows, the support and the bias row. -/
theorem block_holds (c : Dev nD) (t : Fin cfg0.N) :
    (outsAt0 m c t.val t.isLt).1 = k0_pay2 (iblk m c 3 t) (support m c)
      (shapeCast S1x128 (m ((c : Thread nD τ).loc main_arg3) : Vec F S128 .f32) shapeCasts_S128_S1x128) := by
  by_cases h0 : t.val % 25 = 0
  · rw [outsAt0_A m c t h0]
    dsimp only
    rw [block_first, read_x, read_w, read_b]
    rfl
  · rw [outsAt0_B m c t h0]
    dsimp only
    rw [block_later, scratch_holds, read_b]

end AnyFloats

variable (m : (ℓ : Loc nD τ sig) → Buf (Elt Ideal) ℓ)

/-- Over the extended reals the result array holds, at (i, j), the layer of the arguments. -/
theorem result_at (c : Dev nD) (i : Fin 10000) (j : Fin 128) :
    (Value.G4 m c : FVec Ideal S10000x128 .f32) (ix2 i j)
      = layerAt (m ((c : Thread nD τ).loc main_arg0)) (m ((c : Thread nD τ).loc main_arg1))
          (m ((c : Thread nD τ).loc main_arg2)) (m ((c : Thread nD τ).loc main_arg3)) i j := by
  have hi : i.val < 10000 := i.isLt
  have hj : j.val < 128 := j.isLt
  have hp : Value.pt4Of (ix2 i j) = i.val / 400 := by
    show 1 * (i.val / 400 - 0) + 1 * (j.val / 128 - 0) = _
    omega
  have ht : i.val / 400 < cfg0.N := lt_of_lt_of_eq (by omega) N_0.symm
  have hl : Value.loc4Of (ix2 i j) = ix2 (⟨i.val % 400, Nat.mod_lt _ (by decide)⟩ : Fin 400) j := by
    funext a
    apply Fin.ext
    match a with
    | ⟨0, _⟩ => rfl
    | ⟨1, _⟩ => show j.val % 128 = j.val; omega
  unfold Value.G4
  rw [dif_pos (by rw [hp]; exact ht), hl, Value.fold0_congr m c _ _ _ (by omega) hp,
    ← Value.outsAt0_sweep m c _ ht, block_holds m c ⟨_, ht⟩, pay2_at, row_of_bias]
  unfold layerAt
  refine congrArg₂ (max : EReal → EReal → EReal) (congrArg₂ (fun p q : EReal => p + q) (Finset.sum_congr rfl fun k _ => ?_) rfl) rfl
  rw [read_adj m c ⟨_, ht⟩ _ k i (by dsimp only; omega)]
  exact congrArg _ (pay1_at _ _ k j)

end Cert.Gcn

end
-- ==== Proof.lean ====
/- The certificate: each program's frame is its generated one, the idealization rewrites nothing, and over the extended
   reals the kernel's result array and the reference's are both the graph convolution `Cert.Gcn.layerAt` at every index. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Gcn.Result

@[expose] public section

noncomputable section

namespace Cert.Proof

open Idealize.ShloMosaic Idealize.SL.Sem

/-- The reference terminates, leaves its arguments unchanged and declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function over the extended reals: both arrays are the layer at every index. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2.1, (hagree c).2.2.2]
  funext i
  rw [ValueIdx.eq_ix2 i]
  exact (Cert.Gcn.reference_at _ _ _ _ _ _).trans (Cert.Gcn.result_at m c _ _).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
